-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x4608 : Shape := ⟨3, ![2, 3072, 4608]⟩
abbrev S2x3072x1 : Shape := ⟨3, ![2, 3072, 1]⟩
abbrev S4608x9216 : Shape := ⟨2, ![4608, 9216]⟩
abbrev S9216 : Shape := ⟨1, ![9216]⟩
abbrev S6144x4608 : Shape := ⟨2, ![6144, 4608]⟩
abbrev S48x128 : Shape := ⟨2, ![48, 128]⟩
abbrev S1x9216 : Shape := ⟨2, ![1, 9216]⟩
abbrev S6144x9216 : Shape := ⟨2, ![6144, 9216]⟩
abbrev S2048x4608 : Shape := ⟨2, ![2048, 4608]⟩
abbrev S16x128 : Shape := ⟨2, ![16, 128]⟩
abbrev S4608x1024 : Shape := ⟨2, ![4608, 1024]⟩
abbrev S1x1024 : Shape := ⟨2, ![1, 1024]⟩
abbrev S2048x1024 : Shape := ⟨2, ![2048, 1024]⟩
abbrev S1x128 : Shape := ⟨2, ![1, 128]⟩
abbrev S128x128 : Shape := ⟨2, ![128, 128]⟩
abbrev S512x128 : Shape := ⟨2, ![512, 128]⟩
abbrev S512x512 : Shape := ⟨2, ![512, 512]⟩
abbrev S512x4608 : Shape := ⟨2, ![512, 4608]⟩
abbrev S4608x512 : Shape := ⟨2, ![4608, 512]⟩
abbrev S1x512 : Shape := ⟨2, ![1, 512]⟩

abbrev nBuf : Space → Nat
  | .hbm => 10
  | .vmem => 12
  | .smem => 0
  | _ => 0

abbrev bufTy : (tb : Table) → Fin (tcTables nBuf tb) → BufTy
  | .hbm, ⟨0, _⟩ => ⟨S2x3072x4608, .fp8e4m3⟩
  | .hbm, ⟨1, _⟩ => ⟨S2x3072x1, .f32⟩
  | .hbm, ⟨2, _⟩ => ⟨S4608x9216, .fp8e4m3⟩
  | .hbm, ⟨3, _⟩ => ⟨S9216, .f32⟩
  | .hbm, ⟨4, _⟩ => ⟨S9216, .f32⟩
  | .hbm, ⟨5, _⟩ => ⟨S6144x4608, .fp8e4m3⟩
  | .hbm, ⟨6, _⟩ => ⟨S48x128, .f32⟩
  | .hbm, ⟨7, _⟩ => ⟨S1x9216, .f32⟩
  | .hbm, ⟨8, _⟩ => ⟨S1x9216, .f32⟩
  | .hbm, ⟨9, _⟩ => ⟨S6144x9216, .bf16⟩
  | .local _ .vmem, ⟨0, _⟩ => ⟨S2048x4608, .fp8e4m3⟩
  | .local _ .vmem, ⟨1, _⟩ => ⟨S2048x4608, .fp8e4m3⟩
  | .local _ .vmem, ⟨2, _⟩ => ⟨S16x128, .f32⟩
  | .local _ .vmem, ⟨3, _⟩ => ⟨S16x128, .f32⟩
  | .local _ .vmem, ⟨4, _⟩ => ⟨S4608x1024, .fp8e4m3⟩
  | .local _ .vmem, ⟨5, _⟩ => ⟨S4608x1024, .fp8e4m3⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S2048x1024, .bf16⟩
  | .local _ .vmem, ⟨11, _⟩ => ⟨S2048x1024, .bf16⟩
  | _, _ => ⟨S2x3072x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4608 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4608x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x3072x4608 : Shape := ⟨3, ![2, 3072, 4608]⟩
abbrev S2x3072x1 : Shape := ⟨3, ![2, 3072, 1]⟩
abbrev S4608x9216 : Shape := ⟨2, ![4608, 9216]⟩
abbrev S9216 : Shape := ⟨1, ![9216]⟩
abbrev S6144x9216 : Shape := ⟨2, ![6144, 9216]⟩
abbrev S2x3072x9216 : Shape := ⟨3, ![2, 3072, 9216]⟩
abbrev S1x1x9216 : Shape := ⟨3, ![1, 1, 9216]⟩

abbrev nBuf : Space → Nat
  | .hbm => 6
  | .vmem => 6
  | .smem => 0
  | _ => 0

abbrev bufTy : (tb : Table) → Fin (tcTables nBuf tb) → BufTy
  | .hbm, ⟨0, _⟩ => ⟨S2x3072x4608, .fp8e4m3⟩
  | .hbm, ⟨1, _⟩ => ⟨S2x3072x1, .f32⟩
  | .hbm, ⟨2, _⟩ => ⟨S4608x9216, .fp8e4m3⟩
  | .hbm, ⟨3, _⟩ => ⟨S9216, .f32⟩
  | .hbm, ⟨4, _⟩ => ⟨S9216, .f32⟩
  | .hbm, ⟨5, _⟩ => ⟨S6144x9216, .bf16⟩
  | .local _ .vmem, ⟨0, _⟩ => ⟨S2x3072x4608, .fp8e4m3⟩
  | .local _ .vmem, ⟨1, _⟩ => ⟨S2x3072x1, .f32⟩
  | .local _ .vmem, ⟨2, _⟩ => ⟨S4608x9216, .fp8e4m3⟩
  | .local _ .vmem, ⟨3, _⟩ => ⟨S9216, .f32⟩
  | .local _ .vmem, ⟨4, _⟩ => ⟨S9216, .f32⟩
  | .local _ .vmem, ⟨5, _⟩ => ⟨S6144x9216, .bf16⟩
  | _, _ => ⟨S2x3072x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x3072x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x9216 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x9216 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tile.lean ====
/-
  What one grid point of the kernel computes: each of the eight stores of the body writes one 512 × 512 tile of
  the same function of the point's input blocks, so that the whole 2048 × 1024 output block is that function.
-/
module

public import proofs.«01_k».proof.Proof.Gen.KernelIdeal.Frame
public import Idealize.ShloMosaic.Lib.Pipeline.Value
public import Idealize.ShloMosaic.Lib.Pointwise

@[expose] public section

noncomputable section

namespace Cert.Proof.Tile

open Idealize.ShloMosaic Idealize.SL.Sem Cert.KernelIdeal Cert.KernelIdeal.Gen

/-- The matrix of token scales: if the four rows that it is made of are the rows `base` to `base + 3` of `X`, then
    row `r` of the matrix carries entry `r % 128` of row `base + r / 128` of `X`, in every column. -/
theorem scales_apply (X : Vec Ideal S16x128 .f32) (base : ℕ) (hbase : base + 4 ≤ 16)
    (v0 v1 v2 v3 : Vec Ideal S1x128 .f32)
    (h0 : ∀ l : Fin 128, v0 (ix2 0 l) = X (ix2 ⟨base, by omega⟩ l))
    (h1 : ∀ l : Fin 128, v1 (ix2 0 l) = X (ix2 ⟨base + 1, by omega⟩ l))
    (h2 : ∀ l : Fin 128, v2 (ix2 0 l) = X (ix2 ⟨base + 2, by omega⟩ l))
    (h3 : ∀ l : Fin 128, v3 (ix2 0 l) = X (ix2 ⟨base + 3, by omega⟩ l)) (r c : Fin 512) :
    k0_pay3 (F := Ideal) v0 v1 v2 v3 (ix2 r c)
      = X (ix2 ⟨base + r.val / 128, by omega⟩ ⟨r.val % 128, Nat.mod_lt _ (by decide)⟩) := by
  pointwise [k0_pay3]
  simp only [dite_eq_ite, ite_self, h0, h1, h2, h3]
  split_ifs <;> (congr 2 <;> first | rfl | (apply Fin.ext; show (_ : ℕ) = _; simp only []; omega))

/-- One tile: the product of the tile's rows with its columns, times the token scale, times the channel scale, plus
    the bias. -/
theorem tile_apply (v0 v1 v2 v3 : Vec Ideal S1x128 .f32) (x : Vec Ideal S512x4608 .fp8e4m3)
    (w : Vec Ideal S4608x512 .fp8e4m3) (s b : Vec Ideal S1x512 .f32) (r c : Fin 512) :
    k0_pay4 (F := Ideal) v0 v1 v2 v3 x w s b (ix2 r c)
      = (∑ k : Fin 4608, x (ix2 r k) * w (ix2 k c)) * k0_pay3 (F := Ideal) v0 v1 v2 v3 (ix2 r c) * s (ix2 0 c)
          + b (ix2 0 c) := by
  pointwise [k0_pay4]

/-- The output block of one grid point as one function of the five input blocks: row `r`, column `c` is the product of
    row `r` of the activations with column `c` of the weights, times the token scale of row `r` (entry `r % 128` of row
    `r / 128` of the scale block), times the channel scale, plus the bias. -/
def block (X : Vec Ideal S2048x4608 .fp8e4m3) (T : Vec Ideal S16x128 .f32) (W : Vec Ideal S4608x1024 .fp8e4m3)
    (S B : Vec Ideal S1x1024 .f32) : Vec Ideal S2048x1024 .bf16 := fun i =>
  ((∑ k : Fin 4608, (X (ix2 (i 0) k) : EReal) * W (ix2 k (i 1)))
      * T (ix2 ⟨(i 0).val / 128, by have := (i 0).isLt; change _ < 2048 at this; omega⟩
          ⟨(i 0).val % 128, Nat.mod_lt _ (by decide)⟩)
      * S (ix2 0 (i 1)) + B (ix2 0 (i 1)) : EReal)

/-- A tile whose operands are the rows from `128 * q` and the columns from `C` of the blocks is that part of `block`. -/
theorem tile_of_block (X : Vec Ideal S2048x4608 .fp8e4m3) (T : Vec Ideal S16x128 .f32)
    (W : Vec Ideal S4608x1024 .fp8e4m3) (S B : Vec Ideal S1x1024 .f32) (q C : ℕ) (hq : q + 4 ≤ 16) (hC : C + 512 ≤ 1024)
    (v0 v1 v2 v3 : Vec Ideal S1x128 .f32) (x : Vec Ideal S512x4608 .fp8e4m3) (w : Vec Ideal S4608x512 .fp8e4m3)
    (s b : Vec Ideal S1x512 .f32)
    (h0 : ∀ l : Fin 128, v0 (ix2 0 l) = T (ix2 ⟨q, by omega⟩ l))
    (h1 : ∀ l : Fin 128, v1 (ix2 0 l) = T (ix2 ⟨q + 1, by omega⟩ l))
    (h2 : ∀ l : Fin 128, v2 (ix2 0 l) = T (ix2 ⟨q + 2, by omega⟩ l))
    (h3 : ∀ l : Fin 128, v3 (ix2 0 l) = T (ix2 ⟨q + 3, by omega⟩ l))
    (hx : ∀ (r : Fin 512) (k : Fin 4608), x (ix2 r k) = X (ix2 ⟨128 * q + r.val, by omega⟩ k))
    (hw : ∀ (k : Fin 4608) (c : Fin 512), w (ix2 k c) = W (ix2 k ⟨C + c.val, by omega⟩))
    (hs : ∀ c : Fin 512, s (ix2 0 c) = S (ix2 0 ⟨C + c.val, by omega⟩))
    (hb : ∀ c : Fin 512, b (ix2 0 c) = B (ix2 0 ⟨C + c.val, by omega⟩)) (r c : Fin 512) :
    k0_pay4 (F := Ideal) v0 v1 v2 v3 x w s b (ix2 r c)
      = block X T W S B (ix2 ⟨128 * q + r.val, by omega⟩ ⟨C + c.val, by omega⟩) := by
  rw [tile_apply, scales_apply T q hq v0 v1 v2 v3 h0 h1 h2 h3, hs, hb]
  simp only [hx, hw]
  unfold block
  have e1 : (128 * q + r.val) / 128 = q + r.val / 128 := by omega
  have e2 : (128 * q + r.val) % 128 = r.val % 128 := by omega
  simp only [ix2, Matrix.cons_val_zero, Matrix.cons_val_one, e1, e2]

section
variable {F : FTy → Type} [FloatOps F]
variable (v0 v1 v2 v3 : Vec F S1x128 .f32) (x : Vec F S512x4608 .fp8e4m3) (w : Vec F S4608x512 .fp8e4m3)
  (s b : Vec F S1x512 .f32)

/-! The eight stores spell one payload, cut differently into named values: each is `k0_pay4`. -/

theorem pay5_eq : k0_pay5 (k0_pay3 v0 v1 v2 v3) x w s b = k0_pay4 v0 v1 v2 v3 x w s b := rfl
theorem pay8_eq : k0_pay8 (k0_pay6 v0 v1 v2 v3) (k0_pay7 x) w s b = k0_pay4 v0 v1 v2 v3 x w s b := rfl
theorem pay9_eq : k0_pay9 (k0_pay6 v0 v1 v2 v3) x w s b = k0_pay4 v0 v1 v2 v3 x w s b := rfl
theorem pay12_eq : k0_pay12 (k0_pay10 v0) v1 v2 v3 x w s b = k0_pay4 v0 v1 v2 v3 x w s b := rfl
theorem pay14_eq : k0_pay14 (k0_pay13 (k0_pay10 v0) v1 v2 v3 x w) s b = k0_pay4 v0 v1 v2 v3 x w s b := rfl
theorem pay1_eq : k0_pay1 (k0_pay16 v0 v1 v2 v3 x w s) b = k0_pay4 v0 v1 v2 v3 x w s b := rfl
theorem pay2_eq : k0_pay2 (k0_pay15 v0 v1 v2 v3) x w s b = k0_pay4 v0 v1 v2 v3 x w s b := rfl
end

/-- A store through the rectangle at offsets `a`, `b`, whose payload agrees with `G` tile index by tile index, agrees
    with `G` at the places it writes. -/
theorem piece_ok (G : Vec Ideal S2048x1024 .bf16) (a b : ℕ)
    (inb : ∀ i, (![a, b] : Fin 2 → ℕ) i + S512x512.size i ≤ S2048x1024.size i) (pay : Vec Ideal S512x512 .bf16)
    (h : ∀ r c : Fin 512, pay (ix2 r c)
      = G (ix2 ⟨a + r.val, by have := inb 0; simp at this; omega⟩ ⟨b + c.val, by have := inb 1; simp at this; omega⟩))
    (x : S512x512.Idx) : pay x = G ((Rect.unit (s := S2048x1024) ![a, b] S512x512.size inb).emb x) := by
  rw [eq_ix2 x]
  refine (h (x 0) (x 1)).trans (congrArg G (funext fun i => Fin.ext ?_))
  match i with
  | ⟨0, _⟩ => show a + (x 0).val = a + 1 * (x 0).val; omega
  | ⟨1, _⟩ => show b + (x 1).val = b + 1 * (x 1).val; omega

/-- The output block after the body of one grid point is `block` of the point's input blocks. -/
theorem out_eq_block (X : Vec Ideal S2048x4608 .fp8e4m3) (T : Vec Ideal S16x128 .f32)
    (W : Vec Ideal S4608x1024 .fp8e4m3) (S B : Vec Ideal S1x1024 .f32) :
    out0_5 (F := Ideal) X T W S B = block X T W S B := by
  funext y
  unfold out0_5 k0_pay17 k0_pay18
  rw [pay2_eq, pay1_eq, pay14_eq, pay12_eq, pay9_eq, pay8_eq, pay5_eq]
  refine View.canon_apply_of_pieces (block X T W S B) _ ?_ y (cover0_5 _ _ _ _ _ _ _ _ y)
  simp only [List.forall_mem_cons]
  refine ⟨piece_ok _ 1536 512 _ _ (tile_of_block X T W S B 12 512 (by omega) (by omega) _ _ _ _ _ _ _ _ ?_ ?_ ?_ ?_ ?_ ?_ ?_ ?_),
    piece_ok _ 1536 0 _ _ (tile_of_block X T W S B 12 0 (by omega) (by omega) _ _ _ _ _ _ _ _ ?_ ?_ ?_ ?_ ?_ ?_ ?_ ?_),
    piece_ok _ 1024 512 _ _ (tile_of_block X T W S B 8 512 (by omega) (by omega) _ _ _ _ _ _ _ _ ?_ ?_ ?_ ?_ ?_ ?_ ?_ ?_),
    piece_ok _ 1024 0 _ _ (tile_of_block X T W S B 8 0 (by omega) (by omega) _ _ _ _ _ _ _ _ ?_ ?_ ?_ ?_ ?_ ?_ ?_ ?_),
    piece_ok _ 512 512 _ _ (tile_of_block X T W S B 4 512 (by omega) (by omega) _ _ _ _ _ _ _ _ ?_ ?_ ?_ ?_ ?_ ?_ ?_ ?_),
    piece_ok _ 512 0 _ _ (tile_of_block X T W S B 4 0 (by omega) (by omega) _ _ _ _ _ _ _ _ ?_ ?_ ?_ ?_ ?_ ?_ ?_ ?_),
    piece_ok _ 0 512 _ _ (tile_of_block X T W S B 0 512 (by omega) (by omega) _ _ _ _ _ _ _ _ ?_ ?_ ?_ ?_ ?_ ?_ ?_ ?_),
    piece_ok _ 0 0 _ _ (tile_of_block X T W S B 0 0 (by omega) (by omega) _ _ _ _ _ _ _ _ ?_ ?_ ?_ ?_ ?_ ?_ ?_ ?_),
    fun _ h => absurd h List.not_mem_nil⟩
  all_goals intros; pointwise

end Cert.Proof.Tile
-- ==== Proof.Linear.lean ====
/-
  The reference's result as one function of the five arguments: the linear layer, index by index.
-/
module

public import proofs.«01_k».proof.Proof.Gen.ReferenceIdeal.Value
public import Idealize.ShloMosaic.Lib.Pointwise

@[expose] public section

noncomputable section

namespace Cert.Proof.Linear

open Idealize.ShloMosaic Idealize.SL.Sem Cert.ReferenceIdeal Cert.ReferenceIdeal.Gen

/-- The batch of flat token `t`. -/
abbrev batchOf (t : Fin 6144) : Fin 2 := ⟨t.val / 3072, by omega⟩

/-- The position of flat token `t` in its sequence. -/
abbrev posOf (t : Fin 6144) : Fin 3072 := ⟨t.val % 3072, Nat.mod_lt _ (by decide)⟩

/-- The linear layer at token `t` (tokens numbered through the batches) and output channel `c`: the product of the
    token's codes with the channel's codes, times the token's scale, times the channel's scale, plus the bias. -/
def linearAt (x : Vec Ideal S2x3072x4608 .fp8e4m3) (xs : Vec Ideal S2x3072x1 .f32) (w : Vec Ideal S4608x9216 .fp8e4m3)
    (ws b : Vec Ideal S9216 .f32) (t : Fin 6144) (c : Fin 9216) : EReal :=
  (∑ k : Fin 4608, (x (ix3 (batchOf t) (posOf t) k) : EReal) * w (ix2 k c)) * xs (ix3 (batchOf t) (posOf t) 0)
    * ws (ix1 c) + b (ix1 c)

/-- The whole result: `linearAt` at every index. -/
def linear (x : Vec Ideal S2x3072x4608 .fp8e4m3) (xs : Vec Ideal S2x3072x1 .f32) (w : Vec Ideal S4608x9216 .fp8e4m3)
    (ws b : Vec Ideal S9216 .f32) : Vec Ideal S6144x9216 .bf16 := fun i => linearAt x xs w ws b (i 0) (i 1)

/-- The reference computes the linear layer. -/
theorem reference_eq (x : Vec Ideal S2x3072x4608 .fp8e4m3) (xs : Vec Ideal S2x3072x1 .f32)
    (w : Vec Ideal S4608x9216 .fp8e4m3) (ws b : Vec Ideal S9216 .f32) :
    k0_pay1 (F := Ideal) x w xs ws b = linear x xs w ws b := by
  funext i
  idx_vars i
  unfold linear linearAt
  pointwise [k0_pay1]

end Cert.Proof.Linear
-- ==== Proof.Array.lean ====
/-
  What the kernel's result array holds after the run: the blocks of the grid points, put together, are the linear
  layer of the arguments.
-/
module

public import proofs.«01_k».proof.Proof.Gen.KernelIdeal.Value
public import proofs.«01_k».proof.Proof.Tile
public import proofs.«01_k».proof.Proof.Linear
public import Idealize.ShloMosaic.Lib.Claim

@[expose] public section

noncomputable section

namespace Cert.Proof.Array

open Idealize.ShloMosaic Idealize.ShloMosaic.TcCoe Idealize.SL.Sem Cert.KernelIdeal Cert.KernelIdeal.Gen
open Cert.Proof.Tile Cert.Proof.Linear

variable (m : (ℓ : Loc nD τ sig) → Buf (Elt Ideal) ℓ) (c : Dev nD)

/-- Which block each window holds at point `t`: the row of blocks is `t / 9`, the column of blocks `t % 9`. -/
theorem idx : ∀ t : Fin cfg0.N, t.val < 27
    ∧ win0_0.index t (0 : Fin 2) = t.val / 9 ∧ win0_0.index t (1 : Fin 2) = 0
    ∧ win0_1.index t (0 : Fin 2) = t.val / 9 ∧ win0_1.index t (1 : Fin 2) = 0
    ∧ win0_2.index t (0 : Fin 2) = 0 ∧ win0_2.index t (1 : Fin 2) = t.val % 9
    ∧ win0_3.index t (0 : Fin 2) = 0 ∧ win0_3.index t (1 : Fin 2) = t.val % 9
    ∧ win0_4.index t (0 : Fin 2) = 0 ∧ win0_4.index t (1 : Fin 2) = t.val % 9
    ∧ win0_5.index t (0 : Fin 2) = t.val / 9 ∧ win0_5.index t (1 : Fin 2) = t.val % 9 :=
  (by decide +kernel : ∀ t : Fin grid0.N, _)

/-- There are 27 grid points. -/
theorem lt27 (t : Fin cfg0.N) : t.val < 27 := (idx t).1

/-- Row `r` of the blocks of point `t` is this token. -/
def tok (t : Fin cfg0.N) (r : Fin 2048) : Fin 6144 := ⟨t.val / 9 * 2048 + r.val, by have := lt27 t; omega⟩

/-- Column `j` of the blocks of point `t` is this output channel. -/
def chan (t : Fin cfg0.N) (j : Fin 1024) : Fin 9216 := ⟨t.val % 9 * 1024 + j.val, by omega⟩

/-- The block of activations. -/
theorem iblk0_apply (t : Fin cfg0.N) (r : Fin 2048) (k : Fin 4608) :
    iblk m c 0 t (ix2 r k)
      = m ((c : Thread nD τ).loc main_arg0) (ix3 (batchOf (tok t r)) (posOf (tok t r)) k) := by
  obtain ⟨-, e0, e1, -⟩ := idx t
  have he : ((cfg0.win 0).blk t).view.emb (ix2 r k) = ix2 (tok t r) k := by
    funext a; apply Fin.ext
    match a with
    | ⟨0, _⟩ => show win0_0.index t (0 : Fin 2) * 2048 + 1 * r.val = t.val / 9 * 2048 + r.val; omega
    | ⟨1, _⟩ => show win0_0.index t (1 : Fin 2) * 4608 + 1 * k.val = k.val; omega
  show V m c main_v0 (((cfg0.win 0).blk t).view.emb (ix2 r k)) = _
  rw [he]
  entry_read
  pointwise

/-- The block of token scales: entry `r % 128` of row `r / 128` is the scale of row `r`'s token. -/
theorem iblk1_apply (t : Fin cfg0.N) (r : Fin 2048) :
    iblk m c 1 t (ix2 ⟨r.val / 128, by omega⟩ ⟨r.val % 128, Nat.mod_lt _ (by decide)⟩)
      = m ((c : Thread nD τ).loc main_arg1) (ix3 (batchOf (tok t r)) (posOf (tok t r)) 0) := by
  obtain ⟨hl, -, -, e0, e1, -⟩ := idx t
  have he : ((cfg0.win 1).blk t).view.emb (ix2 ⟨r.val / 128, by omega⟩ ⟨r.val % 128, Nat.mod_lt _ (by decide)⟩)
      = ix2 ⟨(tok t r).val / 128, by omega⟩ ⟨(tok t r).val % 128, Nat.mod_lt _ (by decide)⟩ := by
    funext a; apply Fin.ext
    match a with
    | ⟨0, _⟩ =>
      show win0_1.index t (0 : Fin 2) * 16 + 1 * (r.val / 128) = (t.val / 9 * 2048 + r.val) / 128; omega
    | ⟨1, _⟩ =>
      show win0_1.index t (1 : Fin 2) * 128 + 1 * (r.val % 128) = (t.val / 9 * 2048 + r.val) % 128; omega
  show V m c main_v1 (((cfg0.win 1).blk t).view.emb _) = _
  rw [he]
  entry_read
  pointwise
  have h1 : (⟨(tok t r).val / 128 / 24, by omega⟩ : Fin 2) = batchOf (tok t r) :=
    Fin.ext (by show (tok t r).val / 128 / 24 = (tok t r).val / 3072; omega)
  have h2 : (⟨(tok t r).val / 128 % 24 * 128 + (tok t r).val % 128, by omega⟩ : Fin 3072) = posOf (tok t r) :=
    Fin.ext (by show (tok t r).val / 128 % 24 * 128 + (tok t r).val % 128 = (tok t r).val % 3072; omega)
  exact congrArg₂ (fun a b => m ((c : Thread nD τ).loc main_arg1) (ix3 a b 0)) h1 h2

/-- The block of weights. -/
theorem iblk2_apply (t : Fin cfg0.N) (k : Fin 4608) (j : Fin 1024) :
    iblk m c 2 t (ix2 k j) = m ((c : Thread nD τ).loc main_arg2) (ix2 k (chan t j)) := by
  obtain ⟨-, -, -, -, -, e0, e1, -⟩ := idx t
  have he : ((cfg0.win 2).blk t).view.emb (ix2 k j) = ix2 k (chan t j) := by
    funext a; apply Fin.ext
    match a with
    | ⟨0, _⟩ => show win0_2.index t (0 : Fin 2) * 4608 + 1 * k.val = k.val; omega
    | ⟨1, _⟩ => show win0_2.index t (1 : Fin 2) * 1024 + 1 * j.val = t.val % 9 * 1024 + j.val; omega
  show V m c main_arg2 (((cfg0.win 2).blk t).view.emb (ix2 k j)) = _
  rw [he, V_main_arg2]

/-- The block of channel scales. -/
theorem iblk3_apply (t : Fin cfg0.N) (j : Fin 1024) :
    iblk m c 3 t (ix2 0 j) = m ((c : Thread nD τ).loc main_arg3) (ix1 (chan t j)) := by
  obtain ⟨-, -, -, -, -, -, -, e0, e1, -⟩ := idx t
  have he : ((cfg0.win 3).blk t).view.emb (ix2 0 j) = ix2 0 (chan t j) := by
    funext a; apply Fin.ext
    match a with
    | ⟨0, _⟩ => show win0_3.index t (0 : Fin 2) * 1 + 1 * 0 = 0; omega
    | ⟨1, _⟩ => show win0_3.index t (1 : Fin 2) * 1024 + 1 * j.val = t.val % 9 * 1024 + j.val; omega
  show V m c main_v2 (((cfg0.win 3).blk t).view.emb (ix2 0 j)) = _
  rw [he]
  entry_read
  pointwise

/-- The block of biases. -/
theorem iblk4_apply (t : Fin cfg0.N) (j : Fin 1024) :
    iblk m c 4 t (ix2 0 j) = m ((c : Thread nD τ).loc main_arg4) (ix1 (chan t j)) := by
  obtain ⟨-, -, -, -, -, -, -, -, -, e0, e1, -⟩ := idx t
  have he : ((cfg0.win 4).blk t).view.emb (ix2 0 j) = ix2 0 (chan t j) := by
    funext a; apply Fin.ext
    match a with
    | ⟨0, _⟩ => show win0_4.index t (0 : Fin 2) * 1 + 1 * 0 = 0; omega
    | ⟨1, _⟩ => show win0_4.index t (1 : Fin 2) * 1024 + 1 * j.val = t.val % 9 * 1024 + j.val; omega
  show V m c main_v3 (((cfg0.win 4).blk t).view.emb (ix2 0 j)) = _
  rw [he]
  entry_read
  pointwise

/-- The linear layer of the arguments as launched. -/
abbrev result : Vec Ideal S6144x9216 .bf16 :=
  linear (m ((c : Thread nD τ).loc main_arg0)) (m ((c : Thread nD τ).loc main_arg1))
    (m ((c : Thread nD τ).loc main_arg2)) (m ((c : Thread nD τ).loc main_arg3)) (m ((c : Thread nD τ).loc main_arg4))

/-- The result array's index of entry `(r, j)` of point `t`'s block. -/
theorem emb5 (t : Fin cfg0.N) (r : Fin 2048) (j : Fin 1024) :
    ((cfg0.win 5).blk t).view.emb (ix2 r j) = ix2 (tok t r) (chan t j) := by
  obtain ⟨-, -, -, -, -, -, -, -, -, -, -, e0, e1⟩ := idx t
  funext a; apply Fin.ext
  match a with
  | ⟨0, _⟩ => show win0_5.index t (0 : Fin 2) * 2048 + 1 * r.val = t.val / 9 * 2048 + r.val; omega
  | ⟨1, _⟩ => show win0_5.index t (1 : Fin 2) * 1024 + 1 * j.val = t.val % 9 * 1024 + j.val; omega

/-- A block computed from the right entries is the linear layer at the token and the channel of its index. -/
theorem block_eq_linearAt (X : Vec Ideal S2048x4608 .fp8e4m3) (T : Vec Ideal S16x128 .f32)
    (W : Vec Ideal S4608x1024 .fp8e4m3) (S B : Vec Ideal S1x1024 .f32)
    (x : Vec Ideal S2x3072x4608 .fp8e4m3) (xs : Vec Ideal S2x3072x1 .f32) (w : Vec Ideal S4608x9216 .fp8e4m3)
    (ws b : Vec Ideal S9216 .f32) (r : Fin 2048) (j : Fin 1024) (p : Fin 6144) (q : Fin 9216)
    (hX : ∀ k, X (ix2 r k) = x (ix3 (batchOf p) (posOf p) k))
    (hT : T (ix2 ⟨r.val / 128, by omega⟩ ⟨r.val % 128, Nat.mod_lt _ (by decide)⟩)
      = xs (ix3 (batchOf p) (posOf p) 0))
    (hW : ∀ k, W (ix2 k j) = w (ix2 k q)) (hS : S (ix2 0 j) = ws (ix1 q)) (hB : B (ix2 0 j) = b (ix1 q)) :
    block X T W S B (ix2 r j) = linearAt x xs w ws b p q := by
  show (((∑ k : Fin 4608, (X (ix2 r k) : EReal) * W (ix2 k j))
      * T (ix2 ⟨r.val / 128, by omega⟩ ⟨r.val % 128, Nat.mod_lt _ (by decide)⟩)
      * S (ix2 0 j) + B (ix2 0 j) : EReal)) = linearAt x xs w ws b p q
  rw [hT, hS, hB]
  simp only [hX, hW]
  rfl

/-- What point `t` writes back is its block of the linear layer. -/
theorem flushed_eq (t : Fin cfg0.N) :
    (dats m 0 c).flushed 5 t = ((cfg0.win 5).blk t).view.read (Elt Ideal) (result m c) := by
  rw [Value.flushed5, out_eq_block]
  funext i
  obtain ⟨r, j, rfl⟩ : ∃ (r : Fin 2048) (j : Fin 1024), i = ix2 r j := ⟨i 0, i 1, eq_ix2 i⟩
  show block (iblk m c 0 t) (iblk m c 1 t) (iblk m c 2 t) (iblk m c 3 t) (iblk m c 4 t) (ix2 r j)
    = result m c (((cfg0.win 5).blk t).view.emb (ix2 r j))
  rw [emb5]
  exact block_eq_linearAt _ _ _ _ _ _ _ _ _ _ r j (tok t r) (chan t j) (fun k => iblk0_apply m c t r k)
    (iblk1_apply m c t r) (fun k => iblk2_apply m c t k j) (iblk3_apply m c t j) (iblk4_apply m c t j)

/-- Every index of the result is in some point's block. -/
theorem covered (i : S6144x9216.Idx) :
    ∃ t : Fin cfg0.N, (cfg0.win 5).flush t = true ∧ i ∈ ((cfg0.win 5).blk t).view.set := by
  obtain ⟨p, q, rfl⟩ : ∃ (p : Fin 6144) (q : Fin 9216), i = ix2 p q := ⟨i 0, i 1, eq_ix2 i⟩
  have hN : cfg0.N = 27 := by decide
  refine ⟨⟨p.val / 2048 * 9 + q.val / 1024, by omega⟩, flush0_5 _, ?_⟩
  have h := ((cfg0.win 5).blk (⟨p.val / 2048 * 9 + q.val / 1024, by omega⟩ : Fin cfg0.N)).view.emb_mem_set
    (ix2 (⟨p.val % 2048, Nat.mod_lt _ (by decide)⟩ : Fin 2048) (⟨q.val % 1024, Nat.mod_lt _ (by decide)⟩ : Fin 1024))
  rw [emb5] at h
  have e1 : tok (⟨p.val / 2048 * 9 + q.val / 1024, by omega⟩ : Fin cfg0.N) ⟨p.val % 2048, Nat.mod_lt _ (by decide)⟩ = p :=
    Fin.ext (by show (p.val / 2048 * 9 + q.val / 1024) / 9 * 2048 + p.val % 2048 = p.val; omega)
  have e2 : chan (⟨p.val / 2048 * 9 + q.val / 1024, by omega⟩ : Fin cfg0.N) ⟨q.val % 1024, Nat.mod_lt _ (by decide)⟩ = q :=
    Fin.ext (by show (p.val / 2048 * 9 + q.val / 1024) % 9 * 1024 + q.val % 1024 = q.val; omega)
  rwa [e1, e2] at h

/-- The kernel's result array after the run is the linear layer of the arguments as launched. -/
theorem final : (dats m 0 c).arrAt 5 cfg0.N = result m c :=
  (dats m 0 c).arrAt_eq_of_cover 5 (result m c) (fun t _ => flushed_eq m c t) covered

end Cert.Proof.Array
-- ==== Proof.lean ====
/-
  The certificate: the three programs run to the end, leave their arguments unchanged and every semaphore at zero;
  the ideal kernel is the kernel; and, over exact arithmetic, the kernel and the reference leave the same array in
  their results.
-/
module

public import proofs.«01_k».proof.Defs
public import proofs.«01_k».proof.Proof.Array
public import proofs.«01_k».proof.Proof.Linear
public import proofs.«01_k».proof.Proof.Gen.KernelIdeal.Value
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- From equal arguments the kernel's result array and the reference's end equal: both hold the linear layer of the
    arguments. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨fun c => Array.result m c, ?_, ?_⟩
  · exact (θ_run _ _ _).mono (fun r h c => ⟨(h c).1.trans (Array.final m c), (h c).2⟩)
      (Cert.KernelIdeal.Value.run_blocks (F := Ideal) m g)
  · refine (θ_run _ _ _).mono (fun r h c => ⟨(h c).1.trans ?_, (h c).2⟩)
      (Cert.ReferenceIdeal.Value.run (F := Ideal) m' g')
    obtain ⟨h0, h1, h2, h3, h4⟩ := hargs c
    rw [h0, h1, h2, h3, h4]
    exact Linear.reference_eq _ _ _ _ _

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
